-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x160 : Shape := ⟨2, ![64, 160]⟩
abbrev S64x100000 : Shape := ⟨2, ![64, 100000]⟩
abbrev S_ : Shape := ⟨0, ![]⟩
abbrev S64x100352 : Shape := ⟨2, ![64, 100352]⟩
abbrev S64x25088 : Shape := ⟨2, ![64, 25088]⟩
abbrev S64x1 : Shape := ⟨2, ![64, 1]⟩
abbrev S64 : Shape := ⟨1, ![64]⟩
abbrev S64x128 : Shape := ⟨2, ![64, 128]⟩
abbrev S1x128 : Shape := ⟨2, ![1, 128]⟩

abbrev nBuf : Space → Nat
  | .hbm => 8
  | .vmem => 7
  | .smem => 0
  | _ => 0

abbrev bufTy : (tb : Table) → Fin (tcTables nBuf tb) → BufTy
  | .hbm, ⟨0, _⟩ => ⟨S64x160, .i32⟩
  | .hbm, ⟨1, _⟩ => ⟨S64x100000, .f32⟩
  | .hbm, ⟨2, _⟩ => ⟨S64x100000, .i1⟩
  | .hbm, ⟨3, _⟩ => ⟨S64x100000, .i8⟩
  | .hbm, ⟨4, _⟩ => ⟨S_, .i32⟩
  | .hbm, ⟨5, _⟩ => ⟨S_, .i8⟩
  | .hbm, ⟨6, _⟩ => ⟨S64x100352, .i8⟩
  | .hbm, ⟨7, _⟩ => ⟨S64x100000, .f32⟩
  | .local _ .vmem, ⟨0, _⟩ => ⟨S64x25088, .f32⟩
  | .local _ .vmem, ⟨1, _⟩ => ⟨S64x25088, .f32⟩
  | .local _ .vmem, ⟨2, _⟩ => ⟨S64x25088, .i8⟩
  | .local _ .vmem, ⟨3, _⟩ => ⟨S64x25088, .i8⟩
  | .local _ .vmem, ⟨4, _⟩ => ⟨S64x25088, .f32⟩
  | .local _ .vmem, ⟨5, _⟩ => ⟨S64x25088, .f32⟩
  | .local _ .vmem, ⟨6, _⟩ => ⟨S64x1, .i32⟩
  | _, _ => ⟨S64x160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.remsi v0 c4_i32
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.remsi v0 c4_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.remsi v0 c4_i32
  let c0_i32 : BitVec 32 := 0#32
  let c0_i32_0 : BitVec 32 := 0#32
  ![c0_i32.toNat, v1.toNat]

abbrev stage0_0 : Fin 2 → Memref sig .tc .vmem S64x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x25088 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x25088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x160 : Shape := ⟨2, ![64, 160]⟩
abbrev S64x100000 : Shape := ⟨2, ![64, 100000]⟩
abbrev S_ : Shape := ⟨0, ![]⟩
abbrev S64 : Shape := ⟨1, ![64]⟩
abbrev S64x1 : Shape := ⟨2, ![64, 1]⟩
abbrev S1 : Shape := ⟨1, ![1]⟩

abbrev nBuf : Space → Nat
  | .hbm => 18
  | .vmem => 0
  | .smem => 0
  | _ => 0

abbrev bufTy : (tb : Table) → Fin (tcTables nBuf tb) → BufTy
  | .hbm, ⟨0, _⟩ => ⟨S64x160, .i32⟩
  | .hbm, ⟨1, _⟩ => ⟨S64x100000, .f32⟩
  | .hbm, ⟨2, _⟩ => ⟨S64x100000, .i1⟩
  | .hbm, ⟨3, _⟩ => ⟨S_, .f32⟩
  | .hbm, ⟨4, _⟩ => ⟨S64x100000, .f32⟩
  | .hbm, ⟨5, _⟩ => ⟨S64x100000, .f32⟩
  | .hbm, ⟨6, _⟩ => ⟨S_, .i1⟩
  | .hbm, ⟨7, _⟩ => ⟨S64, .i1⟩
  | .hbm, ⟨8, _⟩ => ⟨S_, .f32⟩
  | .hbm, ⟨9, _⟩ => ⟨S64x100000, .f32⟩
  | .hbm, ⟨10, _⟩ => ⟨S64x1, .f32⟩
  | .hbm, ⟨11, _⟩ => ⟨S64, .f32⟩
  | .hbm, ⟨12, _⟩ => ⟨S_, .i32⟩
  | .hbm, ⟨13, _⟩ => ⟨S1, .i32⟩
  | .hbm, ⟨14, _⟩ => ⟨S64x100000, .f32⟩
  | .hbm, ⟨15, _⟩ => ⟨S64x1, .i1⟩
  | .hbm, ⟨16, _⟩ => ⟨S64x100000, .i1⟩
  | .hbm, ⟨17, _⟩ => ⟨S64x100000, .f32⟩
  | _, _ => ⟨S64x160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Proof.Body.lean ====
/-
  The body of the ideal kernel on one block: what it leaves in the result's staging buffer and in the scratch column,
  for any staging buffers and any float values.
-/
module

public import proofs.«01_k».proof.Proof.Gen.KernelIdeal.Frame
public import proofs.«01_k».proof.Proof.Gen.KernelIdeal.Skeleton
public import Idealize.ShloMosaic.Lib.Tactic
public import Idealize.ShloMosaic.Lib.ValueIdx
public import Idealize.ShloMosaic.Lib.Pipeline.Value
public import Idealize.ShloMosaic.Lib.WritesUnit
public import Idealize.ShloMosaic.Lib.VecWindow

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The value written where nothing is kept: minus infinity. -/
def negInf : Elt F .f32 := (Scalar.ofBits .f32 0xFF800000#32 : F .f32)

/-- The result's block at grid point `i`: an entry of the scores is kept where the mask byte is not zero and, at the
    last point only, in column 2 of the rows whose running "any" word is zero; minus infinity elsewhere. -/
def outv (i : grid0.Coords) (X0 : Vec F S64x25088 .f32) (X1 : Vec F S64x25088 .i8) (a : Vec F S64x1 .i32) : Vec F S64x25088 .f32 :=
  fun j => if (X1 j : BitVec 8) ≠ 0#8 ∨ ((i 0).val = 3 ∧ (j 1).val = 2 ∧ (a (ix2 (j 0) 0) : BitVec 32) = 0#32) then X0 j else negInf

/-- The test "this is the last grid point", as the body computes it. -/
theorem last_iff (i : grid0.Coords) :
    Scalar.cmpi .ne (Scalar.extui (Scalar.cmpi .eq (BitVec.ofNat 32 (i 0).val) 3#32) : BitVec 32) 0#32 = 1#1 ↔ (i 0).val = 3 :=
  (by decide +kernel : ∀ k : Fin 4,
    Scalar.cmpi .ne (Scalar.extui (Scalar.cmpi .eq (BitVec.ofNat 32 k.val) 3#32) : BitVec 32) 0#32 = 1#1 ↔ k.val = 3) (i 0)

/-- An equality test of two vectors, read at an entry. -/
theorem cmpi_eq_iff {s : Shape} {w : Nat} (x y : IVec s w) (j : s.Idx) : cmpi .eq x y j = 1#1 ↔ x j = y j := by
  show BitVec.ofBool (x j == y j) = 1#1 ↔ _
  by_cases h : x j = y j
  · simp [h]
  · rw [beq_eq_false_iff_ne.2 h]
    exact ⟨fun e => absurd e (by decide), fun e => absurd e h⟩

/-- An inequality test of two vectors, read at an entry. -/
theorem cmpi_ne_iff {s : Shape} {w : Nat} (x y : IVec s w) (j : s.Idx) : cmpi .ne x y j = 1#1 ↔ x j ≠ y j := by
  show BitVec.ofBool (x j != y j) = 1#1 ↔ _
  by_cases h : x j = y j
  · rw [h, bne_self_eq_false]
    exact ⟨fun e => absurd e (by decide), fun e => absurd rfl e⟩
  · rw [bne_iff_ne.2 h]
    exact ⟨fun _ => h, fun _ => rfl⟩

/-- The bit of a mask byte is one exactly where the byte is not zero. -/
theorem pay1_iff (X1 : Vec F S64x25088 .i8) (j : S64x25088.Idx) : k0_pay1 X1 j = 1#1 ↔ (X1 j : BitVec 8) ≠ 0#8 := by
  unfold k0_pay1
  simp only [shapeCast_self]
  exact cmpi_ne_iff _ _ j

/-- The first store's value at an entry. -/
theorem pay2_apply (X1 : Vec F S64x25088 .i8) (X0 : Vec F S64x25088 .f32) (j : S64x25088.Idx) :
    k0_pay2 X1 X0 j = if (X1 j : BitVec 8) ≠ 0#8 then X0 j else negInf := by
  unfold k0_pay2
  show (if k0_pay1 X1 j = 1#1 then X0 j else negInf) = _
  simp only [pay1_iff]

/-- The second store's value at an entry of the first 128 columns. -/
theorem pay4_apply (a : Vec F S64x1 .i32) (x : Vec F S64x128 .f32) (w : Vec F S64x128 .i8) (r : Fin 64) (k : Fin 128) :
    k0_pay4 a x w (ix2 r k) = if (w (ix2 r k) : BitVec 8) ≠ 0#8 ∨ (k.val = 2 ∧ (a (ix2 r 0) : BitVec 32) = 0#32) then x (ix2 r k) else negInf := by
  unfold k0_pay4
  simp only [shapeCast_self]
  have b1 : broadcastTo S64x128 (cmpi .eq (iota .tc S1x128 32 [1] iota_S1x128_d1_w32) (broadcast S1x128 2#32)) broadcasts_S1x128_S64x128 (ix2 r k) = 1#1
      ↔ k.val = 2 := by
    refine (Eq.congr_left (broadcastTo_apply _ _ _ (ix2 (0 : Fin 1) k) (fun a => by match a with | ⟨0, _⟩ => rfl | ⟨1, _⟩ => rfl))).trans ?_
    refine (cmpi_eq_iff _ _ _).trans ?_
    rw [iota_single_apply]
    show BitVec.ofNat 32 k.val = 2#32 ↔ _
    have h128 := k.isLt
    constructor
    · intro h
      have := congrArg BitVec.toNat h
      simp only [BitVec.toNat_ofNat] at this
      omega
    · intro h
      rw [h]
  have b2 : broadcastTo S64x128 (cmpi .eq (a : IVec S64x1 32) (broadcast S64x1 0#32)) broadcasts_S64x1_S64x128 (ix2 r k) = 1#1
      ↔ (a (ix2 r 0) : BitVec 32) = 0#32 := by
    refine (Eq.congr_left (broadcastTo_apply _ _ _ (ix2 r (0 : Fin 1)) (fun a => by match a with | ⟨0, _⟩ => rfl | ⟨1, _⟩ => rfl))).trans ?_
    exact cmpi_eq_iff _ _ _
  have b0 : cmpi .ne (w : IVec S64x128 8) (broadcast S64x128 0#8) (ix2 r k) = 1#1 ↔ (w (ix2 r k) : BitVec 8) ≠ 0#8 := cmpi_ne_iff _ _ _
  have hb : ∀ p q r : BitVec 1, p ||| (q &&& r) = 1#1 ↔ p = 1#1 ∨ (q = 1#1 ∧ r = 1#1) := by decide
  simp only [← b0, ← b1, ← b2, ← hb]
  rfl

/-- A load of a whole buffer reads all that it holds. -/
theorem readAt_full {S : Shape} {e : EltTy} {sp : Space} (M : Memref sig .tc sp S e) (h : M.IsWhole) (X : S.Idx → Elt F e)
    {off : Fin S.rank → Nat} (hz : off = fun _ => 0) (inb : ∀ a, off a + S.size a ≤ S.size a) :
    View.readAt (Elt F) M.view (Rect.unit off S.size inb).toLoadRect (h.unread X) = X := by
  rw [View.readAt_eq_ld, h.read_unread, View.ld_unit_zero hz]

/-- The two zero offsets of an access, as one constant function. -/
theorem hz2 : (![0, 0] : Fin 2 → Nat) = fun _ => 0 := funext fun a => by fin_cases a <;> rfl

/-- Before the last point the one store leaves the block named `outv`. -/
theorem pay2_eq_outv (i : grid0.Coords) (X0 : Vec F S64x25088 .f32) (X1 : Vec F S64x25088 .i8) (a : Vec F S64x1 .i32) (h : (i 0).val ≠ 3) :
    k0_pay2 X1 X0 = outv i X0 X1 a := by
  funext j
  rw [pay2_apply]
  unfold outv
  simp only [h, _root_.false_and, _root_.or_false]

/-- At the last point the two stores leave the block named `outv`. -/
theorem read_last (i : grid0.Coords) (M1 : Memref sig .tc .vmem S64x25088 .f32) (h1 : M1.IsWhole) (M2 : Memref sig .tc .vmem S64x25088 .i8)
    (h2 : M2.IsWhole) (M3 : Memref sig .tc .vmem S64x25088 .f32) (f : M3.view.ty.Contents (Elt F))
    (X0 : Vec F S64x25088 .f32) (X1 : Vec F S64x25088 .i8) (a : Vec F S64x1 .i32) (h : (i 0).val = 3) :
    View.read (Elt F) M3.view (M3.view.writes (Elt F) f
      [⟨Rect.unit ![0, 0] S64x128.size inb_S64x25088_S64x128_0_0,
          k0_pay4 a
            (View.readAt (Elt F) M1.view (Rect.unit (s := S64x25088) ![0, 0] S64x128.size inb_S64x25088_S64x128_0_0).toLoadRect (h1.unread X0))
            (View.readAt (Elt F) M2.view (Rect.unit (s := S64x25088) ![0, 0] S64x128.size inb_S64x25088_S64x128_0_0).toLoadRect (h2.unread X1))⟩,
        ⟨Rect.unit ![0, 0] S64x25088.size inb_S64x25088_S64x25088_0_0, k0_pay2 X1 X0⟩]) = outv i X0 X1 a := by
  funext j
  unfold outv
  by_cases hj : (j 1).val < 128
  · let x : S64x128.Idx := ix2 (j 0) ⟨(j 1).val, hj⟩
    have hx : ∀ a : Fin 2, (j a).val = (![0, 0] : Fin 2 → Nat) a + (x a).val := fun a => by
      match a with
      | ⟨0, _⟩ => exact (Nat.zero_add _).symm
      | ⟨1, _⟩ => exact (Nat.zero_add _).symm
    have hi : (Rect.unit (s := S64x25088) ![0, 0] S64x128.size inb_S64x25088_S64x128_0_0).idx x = j := by
      funext a
      refine Fin.ext ?_
      show (![0, 0] : Fin 2 → Nat) a + 1 * (x a).val = (j a).val
      rw [hx a, Nat.one_mul]
    rw [View.read_writes_cons_unit_of_mem M3.view f inb_S64x25088_S64x128_0_0 _ _ j x rfl hx, pay4_apply _ _ _ (j 0) ⟨(j 1).val, hj⟩,
      View.readAt_eq_ld, View.readAt_eq_ld, h1.read_unread, h2.read_unread]
    refine if_congr (or_congr (not_congr (Eq.congr_left (congrArg X1 hi))) ?_) (congrArg X0 hi) rfl
    exact ⟨fun e => ⟨h, e⟩, fun e => e.2⟩
  · rw [View.read_writes_cons_unit_of_not_mem M3.view f inb_S64x25088_S64x128_0_0 _ _ j rfl 1 (.inr (by
        show 0 + 128 ≤ (j 1).val
        omega)), View.read_writes_full, pay2_apply]
    have h2 : (j 1).val ≠ 2 := by omega
    simp only [h2, _root_.false_and, _root_.and_false, _root_.or_false]

/-- The body on any whole staging buffers. -/
theorem sound_body (c : Dev nD) (E : Set ℕ) (i : grid0.Coords)
    (M1 : Memref sig .tc .vmem S64x25088 .f32) (h1 : M1.IsWhole) (M2 : Memref sig .tc .vmem S64x25088 .i8) (h2 : M2.IsWhole)
    (M3 : Memref sig .tc .vmem S64x25088 .f32) (h3 : M3.IsWhole) (M4 : Memref sig .tc .vmem S64x1 .i32) (h4 : M4.IsWhole)
    (X0 : Vec F S64x25088 .f32) (X1 : Vec F S64x25088 .i8) (A : Vec F S64x1 .i32) (K : PUnit → sProp 𝕄) :
    iprop(owns (c : Thread nD τ) M1 fullShare X0 ∗ owns (c : Thread nD τ) M2 fullShare X1 ∗ (∃ d, owns (c : Thread nD τ) M3 fullShare d)
          ∗ owns (c : Thread nD τ) M4 fullShare A
          ∗ (iprop(owns (c : Thread nD τ) M1 fullShare X0 ∗ owns (c : Thread nD τ) M2 fullShare X1
                ∗ owns (c : Thread nD τ) M3 fullShare (outv i X0 X1 (k0_pay3 i X1 A)) ∗ owns (c : Thread nD τ) M4 fullShare (k0_pay3 i X1 A)) -∗ K ⟨⟩))
      ⊢ wp frame (wpE (defs₀ (F := F)) Variants.none c none) E (cc0__mask_kernel i M1 h1 M2 h2 M3 h3 M4 h4) K := by
  unfold owns
  iintro ⟨⟨%f0, %hf0, H0⟩, ⟨%f1, %hf1, H1⟩, ⟨%d2, %f2, -, H2⟩, ⟨%f3, %hf3, H3⟩, Hk⟩
  obtain rfl := h1.eq_unread hf0; obtain rfl := h2.eq_unread hf1; obtain rfl := h4.eq_unread hf3
  sl_unfold [cc0__mask_kernel]
  have e1 := readAt_full M1 h1 X0 hz2 inb_S64x25088_S64x25088_0_0
  have e2 := readAt_full M2 h2 X1 hz2 inb_S64x25088_S64x25088_0_0
  have e4 := readAt_full M4 h4 A hz2 inb_S64x1_S64x1_0_0
  by_cases hc : Scalar.cmpi .ne (Scalar.extui (Scalar.cmpi .eq (BitVec.ofNat 32 (i 0).val) 3#32) : BitVec 32) 0#32 = 1#1
  · sl_exec (disch := sl_exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; swap; · iexact H2
      ipureintro
      sl_unfold_run_names
      rw [View.readCov_full]
      exact read_last i M1 h1 M2 h2 M3 f2 X0 X1 _ ((last_iff i).1 hc)
    iexists _; isplitr; swap; · iexact H3
    ipureintro
    sl_unfold_run_names
    rw [View.read_writes_full]
  · sl_exec (disch := sl_exact hc)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; swap; · iexact H2
      ipureintro
      rw [View.read_writes_full]
      exact pay2_eq_outv i X0 X1 _ (fun h => hc ((last_iff i).2 h))
    iexists _; isplitr; swap; · iexact H3
    ipureintro
    rw [View.read_writes_full]

end Cert.KernelIdeal.Own

end
-- ==== Proof.Run.lean ====
/-
  The ideal kernel's run over its four grid points: the proof data of the pipeline, the body's obligation at a point,
  and the run of the whole program to the arrays the data name.
-/
module

public import proofs.«01_k».proof.Proof.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The mask's block at a point. -/
def mblk (c : Dev nD) (t : Fin cfg0.N) : Vec F S64x25088 .i8 := iblk m c 1 t

/-- The scores' block at a point: its part inside the array. -/
def sblk (c : Dev nD) (t : Fin cfg0.N) : (win0_0.xblock (grid0.coords t)).Idx → Elt F .f32 := iblk m c 0 t

/-- The scores' block filled out with `d` past the array's end. -/
def sfull (c : Dev nD) (t : Fin cfg0.N) (d : Vec F S64x25088 .f32) : Vec F S64x25088 .f32 := win0_0.fill (grid0.coords t) d (sblk m c t)

/-- The scratch column after the first `k` points. -/
def accAt (c : Dev nD) : ℕ → Vec F S64x1 .i32
  | 0 => fun _ => (0#32 : BitVec 32)
  | k + 1 => if h : k < cfg0.N then k0_pay3 (grid0.coords ⟨k, h⟩) (mblk m c ⟨k, h⟩) (accAt c k) else accAt c k

/-- The scratch column after a point, from what it held before. -/
theorem accAt_succ (c : Dev nD) (t : Fin cfg0.N) :
    accAt m c (t.val + 1) = k0_pay3 (grid0.coords t) (mblk m c t) (accAt m c t.val) := by
  rw [accAt, dif_pos t.isLt]

/-- The scratch, as the body is handed it. -/
abbrev scM : Memref sig .tc .vmem S64x1 .i32 := Memref.whole cc0_scratch0

/-- The proof data: each array as the region finds it; after the body the inputs' blocks in place and the result's block
    at `outv`; between points the scratch at `accAt` (anything before the first). -/
def dats (_ : Fin 1) (c : Dev nD) : Dat τ (Elt F) Unit ℕ (UR sig nD τ) ℕ cfg0 c where
  A w := V m c (Pipeline.arrRef spec0 w)
  after w t := match w with
    | ⟨0, _⟩ => sfull m c t (fun _ => negInf)
    | ⟨1, _⟩ => mblk m c t
    | ⟨2, _⟩ => outv (grid0.coords t) (sfull m c t (fun _ => negInf)) (mblk m c t) (accAt m c (t.val + 1))
  Φ t := iprop((∃ d : Vec F S64x1 .i32, ⌜t.val ≠ 0 → d = accAt m c t.val⌝ ∗ owns (c : Thread nD τ) scM fullShare d) ∗ ∃ r, prngReg c r)
  q _ := fullShare
  owed _ := 0

/-- The proof data's arrays are the ones the region finds. -/
theorem A_eq (c : Dev nD) (w : Fin cfg0.W) : (dats m 0 c).A w = V m c (Pipeline.arrRef spec0 w) := rfl
/-- After the body the scores' block is in place. -/
theorem after_0 (c : Dev nD) (t : Fin cfg0.N) : (dats m 0 c).after 0 t = sfull m c t (fun _ => negInf) := by dsimp only [dats]
/-- After the body the mask's block is in place. -/
theorem after_1 (c : Dev nD) (t : Fin cfg0.N) : (dats m 0 c).after 1 t = mblk m c t := by dsimp only [dats]
/-- After the body the result's block holds `outv`. -/
theorem after_2 (c : Dev nD) (t : Fin cfg0.N) : (dats m 0 c).after 2 t
    = outv (grid0.coords t) (sfull m c t (fun _ => negInf)) (mblk m c t) (accAt m c (t.val + 1)) := by dsimp only [dats]

/-- Before the body the scores' block is its part inside the array, over what the buffer held. -/
theorem before_0 (c : Dev nD) (t : Fin cfg0.N) (d) : (dats m 0 c).before 0 t d = sfull m c t d := by
  unfold Dat.before
  rw [if_pos (fetch0_0 t)]
  rfl

/-- Before the body the mask's block is the array's. -/
theorem before_1 (c : Dev nD) (t : Fin cfg0.N) (d) : (dats m 0 c).before 1 t d = mblk m c t :=
  before0_1_of m (dats m 0 c) (A_eq m c 1) (after_1 m c) t d

/-! ## The body's obligation -/

/-- The first point starts the running "any" afresh: what the scratch held does not matter. -/
theorem pay3_first (t : Fin cfg0.N) (h : t.val = 0) (X : Vec F S64x25088 .i8) (A B : Vec F S64x1 .i32) :
    k0_pay3 (grid0.coords t) X A = k0_pay3 (grid0.coords t) X B := by
  have hi : ((grid0.coords t) 0).val = 0 := (by decide +kernel : ∀ t : Fin grid0.N, t.val = 0 → ((grid0.coords t) 0).val = 0) t h
  unfold k0_pay3
  rw [hi]
  rfl

/-- The result's block on the part inside the array does not depend on what fills the scores' block out. -/
theorem cut_outv (c : Dev nD) (t : Fin cfg0.N) (d e : Vec F S64x25088 .f32) (a : Vec F S64x1 .i32) :
    win0_2.cut (grid0.coords t) (outv (grid0.coords t) (sfull m c t d) (mblk m c t) a)
      = win0_2.cut (grid0.coords t) (outv (grid0.coords t) (sfull m c t e) (mblk m c t) a) := by
  funext j
  have h : sfull m c t d (win0_2.xinj (grid0.coords t) j) = sfull m c t e (win0_2.xinj (grid0.coords t) j) :=
    (win0_0.fill_xinj (grid0.coords t) d (sblk m c t) j).trans (win0_0.fill_xinj (grid0.coords t) e (sblk m c t) j).symm
  show outv _ _ _ _ (win0_2.xinj (grid0.coords t) j) = outv _ _ _ _ (win0_2.xinj (grid0.coords t) j)
  unfold outv
  rw [h]

/-- The pipeline's body at a point is the kernel function on that point's buffers. -/
theorem defs₀_row (t : Fin cfg0.N) : defs₀ (F := F) .tc cfg0.body (cfg0.bodyArgs t (cfg0.slots t)) = bodyAt0 t := by
  unfold defs₀
  rw [Defs.onTc_tc]

/-- The body, run at any point from the state the proof data say, leaves the state they say. -/
theorem body_obligation (c : Dev nD) : BodyObligationLoose (dats (F := F) m 0 c) (defs₀ (F := F)) Variants.none () Set.univ := fun t => by
  rw [bigSep_W0, bigSep_W0, defs₀_row]
  simp only [before_0, before_1]
  rw [show (dats m 0 c).owesAt () t.succ = (dats m 0 c).owesAt () t.castSucc from rfl]
  rw [after_0, after_1, after_2, accAt_succ]
  dsimp only [dats]
  iintro ⟨⟨⟨%A, %hA, HS⟩, Hr⟩, Ho, ⟨%d0, H0⟩, ⟨%d1, H1⟩, ⟨%d2, H2⟩⟩
  have hacc : k0_pay3 (grid0.coords t) (mblk m c t) A = k0_pay3 (grid0.coords t) (mblk m c t) (accAt m c t.val) := by
    by_cases ht : t.val = 0
    · exact pay3_first t ht _ _ _
    · rw [hA ht]
      rfl
  iapply (sound_body (F := F) c Set.univ (grid0.coords t) _ _ _ _ _ _ _ _ (sfull m c t d0) (mblk m c t) A _)
  isplitl [H0]; · iexact H0
  isplitl [H1]; · iexact H1
  isplitl [H2]; · iexists _; iexact H2
  isplitl [HS]; · iexact HS
  rw [hacc]
  iintro ⟨H0, H1, H2, HS⟩
  isplitl [HS Hr]
  · isplitl [HS]
    · iexists _; isplitr; swap; · iexact HS
      ipureintro
      exact fun _ => (accAt_succ m c t).symm
    · iexact Hr
  isplitl [Ho]; · iexact Ho
  isplitl [H0]
  · iexists d0
    change _ ⊢ owns (c : Thread nD τ) (win0_0.stage (cfg0.slots t 0)) fullShare (win0_0.fill (grid0.coords t) d0 (win0_0.cut (grid0.coords t) (sfull m c t (fun _ => negInf))))
    rw [show win0_0.cut (grid0.coords t) (sfull m c t (fun _ => negInf)) = sblk m c t from win0_0.cut_fill _ _ _]
    exact .rfl
  isplitl [H1]; · iexact H1
  iexists outv (grid0.coords t) (sfull m c t d0) (mblk m c t) (k0_pay3 (grid0.coords t) (mblk m c t) (accAt m c t.val))
  change _ ⊢ owns (c : Thread nD τ) (win0_2.stage (cfg0.slots t 2)) fullShare (win0_2.fill (grid0.coords t) _ (win0_2.cut (grid0.coords t) _))
  rw [win0_2.fill_congr_cut (grid0.coords t) (cut_outv m c t d0 (fun _ => negInf) _)]

/-! ## The run -/

/-- What the region is entered with gives the state before the first point. -/
theorem hin (c : Dev nD) : Pipeline.ΦA spec0 c ⊢ (dats (F := F) m 0 c).Φ 0 := by
  unfold Pipeline.ΦA
  rw [scopedRest0_eq]
  dsimp only [dats]
  simp only [scM, owns_whole]
  iintro ⟨⟨%f, H⟩, Hr⟩
  isplitl [H]
  · iexists f; isplitr; swap; · iexact H
    ipureintro
    exact fun h => absurd rfl h
  · iexact Hr

/-- The state after the last point gives back what the region was entered with. -/
theorem hout (c : Dev nD) : (dats (F := F) m 0 c).Φ (Fin.last cfg0.N) ⊢ Pipeline.ΦA spec0 c := by
  unfold Pipeline.ΦA
  rw [scopedRest0_eq]
  dsimp only [dats]
  simp only [scM, owns_whole]
  iintro ⟨⟨%f, -, H⟩, Hr⟩
  isplitl [H]
  · iexists f; iexact H
  · iexact Hr

set_option backward.isDefEq.respectTransparency.types false in
/-- From any memory with zero counters every run of the program ends, with each array of the pipeline at what the proof
    data say, every other unscoped buffer as the region found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl)
    (hin := hin m) (hout := hout m)

end Cert.KernelIdeal.Own

end
-- ==== Proof.Rows.lean ====
/-
  Two reductions of a matrix along its rows, read at a row: the signed maximum of 0/1 words, and the disjunction of bits.
-/
module

public import Idealize.ShloMosaic.Lib.SortNet.Extract
public import Idealize.ShloMosaic.Lib.ValueIdx
public import Idealize.ShloMosaic.Lib.Pipeline.Value

@[expose] public section

namespace Cert.Rows

open Idealize.ShloMosaic Idealize.ShloMosaic.ValueIdx

variable {n m : Nat}

/-- An index of a matrix is dropped to row `r` exactly when its first coordinate is `r`. -/
theorem drop_row (h : (⟨2, ![n, m]⟩ : Shape).ReducesTo [1] ⟨1, ![n]⟩) (i : (⟨2, ![n, m]⟩ : Shape).Idx) (r : Fin n) :
    h.drop i = ix1 r ↔ i 0 = r := by
  have hv : (h.drop i 0 : Nat) = i 0 := h.drop_apply_val i 0
  constructor
  · intro e
    rw [e] at hv
    exact Fin.ext hv.symm
  · intro e
    funext b
    obtain rfl : b = 0 := Subsingleton.elim (α := Fin 1) _ _
    exact Fin.ext (hv.trans (congrArg Fin.val e))

/-- So a property of some index dropped to row `r` is a property of some entry of row `r`. -/
theorem exists_drop_row (h : (⟨2, ![n, m]⟩ : Shape).ReducesTo [1] ⟨1, ![n]⟩) (r : Fin n) (p : (⟨2, ![n, m]⟩ : Shape).Idx → Prop) :
    (∃ i ∈ Finset.univ.filter (fun i => h.drop i = ix1 r), p i) ↔ ∃ k : Fin m, p (ix2 r k) := by
  constructor
  · rintro ⟨i, hi, hp⟩
    have e : i = ix2 r (i 1) := by
      have h0 := (drop_row h i r).1 (Finset.mem_filter.1 hi).2
      funext b
      match b with
      | ⟨0, _⟩ => exact h0
      | ⟨1, _⟩ => rfl
    exact ⟨i 1, e ▸ hp⟩
  · rintro ⟨k, hp⟩
    exact ⟨ix2 r k, Finset.mem_filter.2 ⟨Finset.mem_univ _, (drop_row h _ r).2 rfl⟩, hp⟩

/-- A signed maximum from the least word over words that are 0 or 1 is 1 exactly when one of them is, and 0 otherwise,
    over any nonempty set. -/
theorem fold_max_flags {ι : Type} (s : Finset ι) (hs : s.Nonempty) (g : ι → BitVec 32) (hg : ∀ i, g i = 0#32 ∨ g i = 1#32) :
    s.fold IntOp.maxsi 2147483648#32 g = 0#32 ∧ (∀ i ∈ s, g i = 0#32)
      ∨ s.fold IntOp.maxsi 2147483648#32 g = 1#32 ∧ ∃ i ∈ s, g i = 1#32 := by
  classical
  obtain ⟨-, hge, hmem⟩ := SortNet.fold_maxsi_spec g s 2147483648#32
  obtain ⟨a, ha⟩ := hs
  have hne : s.fold IntOp.maxsi 2147483648#32 g ≠ 2147483648#32 := fun e => by
    have := hge a ha
    rw [e] at this
    rcases hg a with h | h <;> rw [h] at this <;> exact absurd this (by decide)
  obtain ⟨i, hi, e⟩ := hmem.resolve_left hne
  rcases hg i with h | h
  · refine .inl ⟨e.trans h, fun j hj => (hg j).resolve_right fun hj1 => ?_⟩
    have := hge j hj
    rw [e, h, hj1] at this
    exact absurd this (by decide)
  · exact .inr ⟨e.trans h, i, hi, h⟩

/-- A disjunction of bits from 0 is 1 exactly when one of them is. -/
theorem fold_or {ι : Type} (s : Finset ι) (g : ι → BitVec 1) : s.fold IntOp.ori 0#1 g = 1#1 ↔ ∃ i ∈ s, g i = 1#1 := by
  classical
  have hor : ∀ x y : BitVec 1, IntOp.ori x y = 1#1 ↔ x = 1#1 ∨ y = 1#1 := by decide
  induction s using Finset.induction_on with
  | empty => exact ⟨fun h => absurd h (by rw [Finset.fold_empty]; decide), fun ⟨i, hi, _⟩ => absurd hi (Finset.notMem_empty i)⟩
  | insert a s has ih =>
    rw [Finset.fold_insert has, hor, Finset.exists_mem_insert]
    exact or_congr_right ih

/-- The row maximum of a matrix of 0/1 words with at least one column. -/
theorem row_max (hm : 0 < m) (x : IVec ⟨2, ![n, m]⟩ 32) (hx : ∀ i, x i = 0#32 ∨ x i = 1#32)
    (h : (⟨2, ![n, m]⟩ : Shape).Reduces [1] ⟨1, ![n]⟩) (hacc : 2147483648#32 = IKind.neutral .maxsi) (r : Fin n) :
    multiReductionI .maxsi [1] ⟨1, ![n]⟩ x 2147483648#32 h hacc (ix1 r) = if ∃ k : Fin m, x (ix2 r k) = 1#32 then 1#32 else 0#32 := by
  rw [multiReductionI_eq_fold]
  have key := exists_drop_row h.reducesTo r
  rcases fold_max_flags (Finset.univ.filter fun i => h.reducesTo.drop i = ix1 r)
    ⟨ix2 r ⟨0, hm⟩, Finset.mem_filter.2 ⟨Finset.mem_univ _, (drop_row _ _ r).2 rfl⟩⟩ x hx with ⟨e, h0⟩ | ⟨e, h1⟩
  · refine Eq.trans e (if_neg fun hk => ?_).symm
    obtain ⟨i, hi, e1⟩ := (key fun i => x i = 1#32).2 hk
    exact absurd ((h0 i hi).symm.trans e1) (by decide)
  · exact Eq.trans e (if_pos ((key fun i => x i = 1#32).1 h1)).symm

/-- The row disjunction of a matrix of bits. -/
theorem row_or (x : IVec ⟨2, ![n, m]⟩ 1) (h : (⟨2, ![n, m]⟩ : Shape).ReducesTo [1] ⟨1, ![n]⟩) {u : Shape} (hu : 0 < u.numel) (r : Fin n) :
    Host.reduce IntOp.ori x (constantI u 1 0#1) h hu (ix1 r) = 1#1 ↔ ∃ k : Fin m, x (ix2 r k) = 1#1 := by
  rw [Host.reduce_eq_fold]
  exact (fold_or _ x).trans (exists_drop_row h r _)

end Cert.Rows

end
-- ==== Proof.Mask.lean ====
/-
  What the mask's blocks hold, and what the running "any" of a row holds after each point.
-/
module

public import proofs.«01_k».proof.Proof.Run
public import proofs.«01_k».proof.Proof.Rows
public import Idealize.ShloMosaic.Lib.KernelVsHost
public import Idealize.ShloMosaic.Lib.Claim
public import Idealize.ShloMosaic.Lib.Pipeline.ValueKit.Geometry

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ) (ρ : Dev nD → PrngReg)

/-- The mask as launched. -/
abbrev maskOf (c : Dev nD) : IVec S64x100000 1 := m ((c.tc : Thread nD τ).loc main_arg2)

/-- The scores as launched. -/
abbrev scoresOf (c : Dev nD) : Vec F S64x100000 .f32 := m ((c.tc : Thread nD τ).loc main_arg1)

/-- The mask's bit at column `k` of row `r`, no bit being set past the last column. -/
def bitAt (M : IVec S64x100000 1) (r : Fin 64) (k : ℕ) : Prop := ∃ h : k < 100000, M (ix2 r ⟨k, h⟩) = 1#1

/-- The array the mask's blocks are cut from: the mask's bits as bytes, with zero columns to its right. -/
theorem V_bytes (c : Dev nD) : V m c main_v1
    = pad S64x100352 ![0, 0] ![0, 352] ![0, 0] (extui 8 (maskOf m c) natLt_1_8) (trunci 8 (constantI S_ 32 0#32) natLt_8_32)
        pads_S64x100000_S64x100352_000_03520 h_S_ := by
  show StableHlo.after (List.flatten [hostOps0, hostOps0_1]) (fun b => m (c, b)) (Proc.devRef .tc main_v1) = _
  simp only [hostOps0, hostOps0_1, List.flatten_cons, List.flatten_nil, List.append_nil, List.cons_append, List.nil_append,
    StableHlo.after_cons, StableHlo.after_nil, StableHlo.TRef.unary, StableHlo.TRef.binary, StableHlo.TRef.of]

  after_results_loop
  rfl

/-- A byte of that array is not zero exactly where the mask's bit is set. -/
theorem bytes_iff (c : Dev nD) (r : Fin 64) (k : Fin 100352) :
    (V m c main_v1 (ix2 r k) : BitVec 8) ≠ 0#8 ↔ bitAt (maskOf m c) r k.val := by
  rw [V_bytes]
  by_cases h : k.val < 100000
  · rw [pad_apply_of_inside (k := ix2 r ⟨k.val, h⟩)]
    · have hb : ∀ b : BitVec 1, b.setWidth 8 ≠ 0#8 ↔ b = 1#1 := by decide
      exact (hb _).trans ⟨fun e => ⟨h, e⟩, fun ⟨_, e⟩ => e⟩
    · intro a
      match a with
      | ⟨0, _⟩ => simp [ix2]
      | ⟨1, _⟩ => simp [ix2]
  · rw [pad_apply_of_not_inside (a := (1 : Fin 2))]
    · exact ⟨fun e => absurd rfl e, fun ⟨h', _⟩ => absurd h' h⟩
    · intro hin
      have h2 := hin.2.2
      simp [ix2] at h2
      exact h h2

/-- The block of columns a grid point works on: the points take blocks 1, 2, 3 and then block 0. -/
def blkNo (t : Fin cfg0.N) : ℕ := (t.val + 1) % 4

/-- Each window's column block at a point is `blkNo`'s, and its row block the only one. -/
theorem index_eq (t : Fin cfg0.N) : (win0_1.index t 0 = 0 ∧ win0_1.index t 1 = blkNo t) ∧ (win0_0.index t 0 = 0 ∧ win0_0.index t 1 = blkNo t)
    ∧ (win0_2.index t 0 = 0 ∧ win0_2.index t 1 = blkNo t) := by
  unfold blkNo
  rcases fin_N0 t with rfl | rfl | rfl | rfl <;> decide +kernel

/-- There are four blocks of columns. -/
theorem blkNo_lt (t : Fin cfg0.N) : blkNo t < 4 := Nat.mod_lt _ (by decide)

/-- A byte of the mask's block at a point is not zero exactly where the mask's bit is set. -/
theorem mblk_iff (c : Dev nD) (t : Fin cfg0.N) (r : Fin 64) (k : Fin 25088) :
    (mblk m c t (ix2 r k) : BitVec 8) ≠ 0#8 ↔ bitAt (maskOf m c) r (blkNo t * 25088 + k.val) := by
  have hk : blkNo t * 25088 + k.val < 100352 := by have := blkNo_lt t; omega
  rw [← bytes_iff m c r ⟨_, hk⟩]
  have e : mblk m c t (ix2 r k) = V m c main_v1 (ix2 r ⟨blkNo t * 25088 + k.val, hk⟩) := by
    unfold mblk
    blk_simp [iblk]
    refine congrArg (V m c main_v1) (funext fun a => Fin.ext ?_)
    obtain ⟨⟨h0, h1⟩, -⟩ := index_eq t
    match a with
    | ⟨0, _⟩ => blk_simp; simp [ix2, h0]
    | ⟨1, _⟩ => blk_simp; simp [ix2, h1]
  rw [e]

/-- Some bit of row `r` is set in the block of columns a point works on. -/
def anyIn (M : IVec S64x100000 1) (r : Fin 64) (t : Fin cfg0.N) : Prop := ∃ k : Fin 25088, bitAt M r (blkNo t * 25088 + k.val)

/-- The first point is the one whose grid coordinate is zero, as the body tests it. -/
theorem first_iff (t : Fin cfg0.N) : Scalar.cmpi .eq (BitVec.ofNat 32 ((grid0.coords t) 0).val) 0#32 = 1 ↔ t.val = 0 := by
  rcases fin_N0 t with rfl | rfl | rfl | rfl <;> decide +kernel

open Classical in
/-- The running "any" after a point, at a row: the greater of what it was (0 before the first point) and the block's own. -/
theorem pay3_apply (t : Fin cfg0.N) (X : Vec F S64x25088 .i8) (A : Vec F S64x1 .i32) (r : Fin 64) :
    k0_pay3 (grid0.coords t) X A (ix2 r 0)
      = IntOp.maxsi (if t.val = 0 then 0#32 else (A (ix2 r 0) : BitVec 32))
          (if ∃ k : Fin 25088, (X (ix2 r k) : BitVec 8) ≠ 0#8 then 1#32 else 0#32) := by
  have hbit : ∀ b : BitVec 1, b.setWidth 32 = 1#32 ↔ b = 1#1 := by decide
  have hflag : ∀ b : BitVec 1, b.setWidth 32 = 0#32 ∨ b.setWidth 32 = 1#32 := by decide
  have hrow : shapeCast S64x1 (multiReductionI .maxsi [1] S64 (extui 32 (k0_pay1 X) natLt_1_32) 2147483648#32 reduces_S64x25088_S64 rfl)
      shapeCasts_S64_S64x1 (ix2 r 0) = if ∃ k : Fin 25088, (X (ix2 r k) : BitVec 8) ≠ 0#8 then 1#32 else 0#32 := by
    rw [shapeCast_apply (k := ix1 r)]
    · refine (Cert.Rows.row_max (by decide) _ (fun i => hflag _) _ _ r).trans ?_
      exact if_congr (exists_congr fun k => (hbit _).trans (pay1_iff X (ix2 r k))) rfl rfl
    · rw [Shape.rowMajor_val_one, Shape.rowMajor_val_two]
      simp [ix1, ix2]
  unfold k0_pay3
  simp only [shapeCast_self]
  show IntOp.maxsi (Scalar.select (Scalar.cmpi .eq (BitVec.ofNat 32 ((grid0.coords t) 0).val) 0#32) (broadcast S64x1 0#32) A (ix2 r 0)) (shapeCast _ _ _ _) = _
  rw [hrow]
  refine congrArg (IntOp.maxsi · _) ?_
  unfold Scalar.select
  by_cases h : t.val = 0
  · rw [if_pos h, if_pos ((first_iff t).2 h)]
    rfl
  · rw [if_neg h, if_neg fun e => h ((first_iff t).1 e)]

open Classical in
/-- After the first `n` points the running "any" of a row is 1 if one of their blocks has a set bit in that row, else 0. -/
theorem accAt_apply (c : Dev nD) (r : Fin 64) (n : ℕ) (hn : n ≤ cfg0.N) :
    accAt m c n (ix2 r 0) = if ∃ t : Fin cfg0.N, t.val < n ∧ anyIn (maskOf m c) r t then 1#32 else 0#32 := by
  induction n with
  | zero => exact (if_neg fun ⟨_, h, _⟩ => absurd h (Nat.not_lt_zero _)).symm
  | succ n ih =>
    have e := accAt_succ m c ⟨n, hn⟩
    have hany : (∃ k : Fin 25088, (mblk m c ⟨n, hn⟩ (ix2 r k) : BitVec 8) ≠ 0#8) ↔ anyIn (maskOf m c) r ⟨n, hn⟩ :=
      exists_congr fun k => mblk_iff m c ⟨n, hn⟩ r k
    have hsplit : (∃ t : Fin cfg0.N, t.val < n + 1 ∧ anyIn (maskOf m c) r t)
        ↔ (∃ t : Fin cfg0.N, t.val < n ∧ anyIn (maskOf m c) r t) ∨ anyIn (maskOf m c) r ⟨n, hn⟩ := by
      constructor
      · rintro ⟨t, ht, h⟩
        rcases Nat.lt_succ_iff_lt_or_eq.1 ht with ht | ht
        · exact .inl ⟨t, ht, h⟩
        · obtain rfl : t = ⟨n, hn⟩ := Fin.ext ht
          exact .inr h
      · rintro (⟨t, ht, h⟩ | h)
        · exact ⟨t, Nat.lt_succ_of_lt ht, h⟩
        · exact ⟨_, Nat.lt_succ_self n, h⟩
    have hstart : (if n = 0 then 0#32 else (accAt m c n (ix2 r 0) : BitVec 32))
        = if ∃ t : Fin cfg0.N, t.val < n ∧ anyIn (maskOf m c) r t then 1#32 else 0#32 := by
      rw [← ih (Nat.le_of_succ_le hn)]
      by_cases h : n = 0
      · subst h
        rfl
      · rw [if_neg h]
    refine (congrFun e (ix2 r 0)).trans ((pay3_apply _ _ _ r).trans ?_)
    rw [hstart, if_congr hany rfl rfl, if_congr hsplit rfl rfl]
    by_cases h1 : ∃ t : Fin cfg0.N, t.val < n ∧ anyIn (maskOf m c) r t <;> by_cases h2 : anyIn (maskOf m c) r ⟨n, hn⟩ <;>
      simp only [h1, h2, if_true, if_false, or_self, or_true, true_or] <;> decide

/-- After the last point the running "any" of a row is zero exactly where no bit of the row is set. -/
theorem acc_last_iff (c : Dev nD) (r : Fin 64) :
    (accAt m c 4 (ix2 r 0) : BitVec 32) = 0#32 ↔ ∀ k : Fin 100000, maskOf m c (ix2 r k) ≠ 1#1 := by
  have hN : cfg0.N = 4 := N_0
  rw [accAt_apply m c r 4 hN.ge]
  constructor
  · intro h k hk
    have hb : k.val / 25088 < 4 := by omega
    refine absurd h ?_
    rw [if_pos]
    · exact (by decide : ¬(1#32 : BitVec 32) = 0#32)
    · refine ⟨⟨(k.val / 25088 + 3) % 4, by rw [hN]; exact Nat.mod_lt _ (by decide)⟩, Nat.mod_lt _ (by decide), ⟨k.val % 25088, Nat.mod_lt _ (by decide)⟩, ?_⟩
      have e : blkNo ⟨(k.val / 25088 + 3) % 4, by rw [hN]; exact Nat.mod_lt _ (by decide)⟩ * 25088 + k.val % 25088 = k.val := by
        unfold blkNo
        dsimp only
        omega
      show bitAt _ r (_ + k.val % 25088)
      rw [e]
      exact ⟨k.isLt, hk⟩
  · intro h
    exact if_neg fun ⟨t, _, k, hk, e⟩ => h _ e

end Cert.KernelIdeal.Own

end
-- ==== Proof.Value.lean ====
/-
  What the ideal kernel's result array holds after the run, as one function of the scores and the mask.
-/
module

public import proofs.«01_k».proof.Proof.Mask

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ) (ρ : Dev nD → PrngReg)

/-- An entry is kept where the mask's bit is set, and in column 2 of a row in which no bit is. -/
def kept (M : IVec S64x100000 1) (j : S64x100000.Idx) : Prop :=
  M j = 1#1 ∨ ((j 1).val = 2 ∧ ∀ k : Fin 100000, M (ix2 (j 0) k) ≠ 1#1)

open Classical in
/-- The masked scores: the scores where an entry is kept, minus infinity elsewhere. -/
def masked (S : Vec F S64x100000 .f32) (M : IVec S64x100000 1) : Vec F S64x100000 .f32 :=
  fun j => if kept M j then S j else negInf

/-- Where a point's block of the result lies in the array. -/
theorem emb_val (t : Fin cfg0.N) (y : (win0_2.xblock (grid0.coords t)).Idx) :
    (((cfg0.win 2).blk t).view.emb y 0 : ℕ) = y 0 ∧ (((cfg0.win 2).blk t).view.emb y 1 : ℕ) = blkNo t * 25088 + y 1 := by
  obtain ⟨-, -, h0, h1⟩ := index_eq t
  constructor
  · blk_simp
    simp [h0]
  · blk_simp
    simp [h1]

/-- The scores' block at a point, at an entry inside the array. -/
theorem sblk_apply (c : Dev nD) (t : Fin cfg0.N) (y : (win0_2.xblock (grid0.coords t)).Idx) :
    sblk m c t y = scoresOf m c (((cfg0.win 2).blk t).view.emb y) := by
  show V m c main_arg1 (((cfg0.win 0).blk t).view.emb y) = _
  rw [V_main_arg1]
  rfl

/-- The last point is the one whose grid coordinate is 3. -/
theorem coord_eq (t : Fin cfg0.N) : ((grid0.coords t) 0).val = t.val := by
  rcases fin_N0 t with rfl | rfl | rfl | rfl <;> decide +kernel

/-- What a point leaves in the result's block, at an entry inside the array, is the masked scores' entry there. -/
theorem after_apply (c : Dev nD) (t : Fin cfg0.N) (y : (win0_2.xblock (grid0.coords t)).Idx) :
    outv (grid0.coords t) (sfull m c t (fun _ => negInf)) (mblk m c t) (accAt m c (t.val + 1)) (win0_2.xinj (grid0.coords t) y)
      = masked (scoresOf m c) (maskOf m c) (((cfg0.win 2).blk t).view.emb y) := by
  obtain ⟨hx0, hx1⟩ := emb_val t y
  have hy : (y 1 : ℕ) < 25088 := (win0_2.xinj (grid0.coords t) y 1).isLt
  have hx : win0_2.xinj (grid0.coords t) y = ix2 (((cfg0.win 2).blk t).view.emb y 0) ⟨y 1, hy⟩ := by
    funext a
    match a with
    | ⟨0, _⟩ => exact Fin.ext hx0.symm
    | ⟨1, _⟩ => rfl
  have hs : sfull m c t (fun _ => negInf) (win0_2.xinj (grid0.coords t) y) = scoresOf m c (((cfg0.win 2).blk t).view.emb y) :=
    (win0_0.fill_xinj (grid0.coords t) _ (sblk m c t) y).trans (sblk_apply m c t y)
  have hlt := (((cfg0.win 2).blk t).view.emb y 1).isLt
  have hbit : bitAt (maskOf m c) (((cfg0.win 2).blk t).view.emb y 0) (blkNo t * 25088 + (y 1 : ℕ))
      ↔ maskOf m c (((cfg0.win 2).blk t).view.emb y) = 1#1 := by
    have e : ∀ h, ix2 (((cfg0.win 2).blk t).view.emb y 0) ⟨blkNo t * 25088 + (y 1 : ℕ), h⟩ = ((cfg0.win 2).blk t).view.emb y := fun h => by
      funext a
      match a with
      | ⟨0, _⟩ => rfl
      | ⟨1, _⟩ => exact Fin.ext hx1.symm
    constructor
    · rintro ⟨h, hb⟩
      exact (congrArg (maskOf m c) (e h)).symm.trans hb
    · exact fun hb => ⟨hx1 ▸ hlt, (congrArg (maskOf m c) (e _)).trans hb⟩
  have hcol : (((grid0.coords t) 0).val = 3 ∧ (y 1 : ℕ) = 2 ∧ (accAt m c (t.val + 1) (ix2 (((cfg0.win 2).blk t).view.emb y 0) 0) : BitVec 32) = 0#32)
      ↔ (((cfg0.win 2).blk t).view.emb y 1 : ℕ) = 2 ∧ ∀ k : Fin 100000, maskOf m c (ix2 (((cfg0.win 2).blk t).view.emb y 0) k) ≠ 1#1 := by
    rw [coord_eq, hx1]
    have hacc := acc_last_iff m c (((cfg0.win 2).blk t).view.emb y 0)
    have hN : t.val < 4 := N_0 ▸ t.isLt
    have hb : blkNo t = (t.val + 1) % 4 := rfl
    constructor
    · rintro ⟨h3, h2, ha⟩
      rw [h3] at ha
      exact ⟨by omega, hacc.1 ha⟩
    · rintro ⟨h2, ha⟩
      have h3 : t.val = 3 := by omega
      rw [h3]
      exact ⟨rfl, by omega, hacc.2 ha⟩
  classical
  unfold outv masked
  rw [hs]
  refine if_congr ?_ rfl rfl
  rw [hx]
  exact or_congr ((mblk_iff m c t _ _).trans hbit) hcol

/-- The result array after the run: the masked scores. -/
theorem final (c : Dev nD) : (dats m 0 c).arrAt 2 cfg0.N = masked (scoresOf m c) (maskOf m c) := by
  refine (dats m 0 c).arrAt_eq_of_covers 2 _ (by decide +kernel) fun t _ y => ?_
  rw [after_2]
  exact after_apply m c t y

end Cert.KernelIdeal.Own

end
-- ==== Proof.Reference.lean ====
/-
  What the reference computes, as the same function of the scores and the mask.
-/
module

public import proofs.«01_k».proof.Proof.Rows
public import proofs.«01_k».proof.Proof.Gen.ReferenceIdeal.Run
public import proofs.«01_k».proof.Defs
public import Idealize.ShloMosaic.Lib.Routing.OpsOne
public import Idealize.ShloMosaic.Lib.Quiescent

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.ValueIdx
open Idealize.SL.Sem

variable {F : FTy → Type} [FloatOps F]

/-- The reference's filler: minus infinity everywhere. -/
def fill : FVec F S64x100000 .f32 := broadcastInDim S64x100000 ![] bcast_S_S64x100000 (constant S_ .f32 0xFF800000#32)

/-- The row of answers a masked-out row gets: minus infinity, but column 2 of the scores in column 2. -/
def fallback (S : FVec F S64x100000 .f32) : FVec F S64x100000 .f32 :=
  Host.scatter scatter_S64x100000_S1_S64_0_1_1_0 (fun _ b => b) fill (broadcastInDim S1 ![] bcast_S_S1 (constantI S_ 32 2#32))
    (shapeCast S64 (extractStridedSlice S64x1 ![0, 2] S slices_S64x100000_S64x1_0_2) shapeCasts_S64x1_S64)

/-- Per entry, whether its row has a set bit. -/
def rowAny (M : IVec S64x100000 1) : IVec S64x100000 1 :=
  broadcastInDim S64x100000 ![0, 1] bcast_S64x1_S64x100000_0_1 (broadcastInDim S64x1 ![0] bcast_S64_S64x1_0
    (Host.reduce IntOp.ori M (constantI S_ 1 0#1) reducesTo_S64x100000_S64_d1 h_S_))

/-- The reference's result, as its operations compose it. -/
def out (S : FVec F S64x100000 .f32) (M : IVec S64x100000 1) : FVec F S64x100000 .f32 :=
  select (rowAny M) (select M S fill) (fallback S)

/-- The filler at an entry. -/
theorem fill_apply (j : S64x100000.Idx) : (fill : FVec F S64x100000 .f32) j = (Scalar.ofBits .f32 0xFF800000#32 : F .f32) :=
  broadcastInDim_apply _ _ _ j (Fin.elim0 ·) (fun a => a.elim0)

/-- The fallback at an entry: the score in column 2, minus infinity elsewhere. -/
theorem fallback_apply (S : FVec F S64x100000 .f32) (r : Fin 64) (k : Fin 100000) :
    fallback S (ix2 r k) = if k.val = 2 then S (ix2 r k) else (Scalar.ofBits .f32 0xFF800000#32 : F .f32) := by
  have lands (w : Fin 64) : scatter_S64x100000_S1_S64_0_1_1_0.resultIdx? (ix1 w) (broadcastInDim S1 ![] bcast_S_S1 (constantI S_ 32 2#32)) = some (ix2 r k)
      ↔ w = r ∧ k = 2 :=
    Routing.lands_col scatter_S64x100000_S1_S64_0_1_1_0 rfl rfl _ (2 : Fin 100000) (by decide) w r k
  have hlands : ∀ j : S64.Idx, scatter_S64x100000_S1_S64_0_1_1_0.resultIdx? j (broadcastInDim S1 ![] bcast_S_S1 (constantI S_ 32 2#32)) = some (ix2 r k)
      ↔ j 0 = r ∧ k = 2 := fun j => by
    obtain ⟨w, rfl⟩ : ∃ w : Fin 64, j = ix1 w := ⟨j 0, eq_ix1 j⟩
    exact lands w
  unfold fallback
  by_cases h : k.val = 2
  · obtain rfl : k = 2 := Fin.ext h
    rw [if_pos h]
    refine Routing.scatter_set_hit _ _ _ _ _ _ (fun j hj => ?_) (ix1 r) ((lands r).2 ⟨rfl, rfl⟩)
    obtain ⟨w, rfl⟩ : ∃ w : Fin 64, j = ix1 w := ⟨j 0, eq_ix1 j⟩
    obtain rfl : w = r := ((lands w).1 hj).1
    rw [shapeCast_apply (k := ix2 w 0)]
    · exact extractStridedSlice_apply _ _ _ _ _ fun a => by
        match a with
        | ⟨0, _⟩ => simp [ix2]
        | ⟨1, _⟩ => rfl
    · rw [Shape.rowMajor_val_one, Shape.rowMajor_val_two]
      simp [ix1, ix2]
  · rw [if_neg h]
    refine (Routing.scatter_set_miss _ _ _ _ _ fun j hj => h ?_).trans (fill_apply _)
    rw [((hlands j).1 hj).2]
    rfl

/-- The row test at an entry. -/
theorem rowAny_iff (M : IVec S64x100000 1) (r : Fin 64) (k : Fin 100000) :
    rowAny M (ix2 r k) = 1#1 ↔ ∃ k' : Fin 100000, M (ix2 r k') = 1#1 := by
  unfold rowAny
  rw [broadcastInDim_apply (k := ix2 r 0), broadcastInDim_apply (k := ix1 r)]
  · exact Cert.Rows.row_or M _ _ r
  · intro a
    match a with
    | ⟨0, _⟩ => rfl
  · intro a
    match a with
    | ⟨0, _⟩ => rfl
    | ⟨1, _⟩ => rfl

/-- The reference's result at an entry: the score where the mask's bit is set, and in column 2 of a row with no set bit;
    minus infinity elsewhere. -/
theorem out_apply (S : FVec F S64x100000 .f32) (M : IVec S64x100000 1) (r : Fin 64) (k : Fin 100000)
    [Decidable (M (ix2 r k) = 1#1 ∨ (k.val = 2 ∧ ∀ k' : Fin 100000, M (ix2 r k') ≠ 1#1))] :
    out S M (ix2 r k) = if M (ix2 r k) = 1#1 ∨ (k.val = 2 ∧ ∀ k' : Fin 100000, M (ix2 r k') ≠ 1#1) then S (ix2 r k)
      else (Scalar.ofBits .f32 0xFF800000#32 : F .f32) := by
  have hsel : ∀ (p : IVec S64x100000 1) (x y : FVec F S64x100000 .f32), select p x y (ix2 r k) = if p (ix2 r k) = 1#1 then x (ix2 r k) else y (ix2 r k) :=
    fun _ _ _ => rfl
  unfold out
  rw [hsel, hsel, fill_apply, fallback_apply]
  by_cases hany : ∃ k' : Fin 100000, M (ix2 r k') = 1#1
  · rw [if_pos ((rowAny_iff M r k).2 hany)]
    exact if_congr ⟨.inl, fun h => h.resolve_right fun h => hany.elim fun k' e => h.2 k' e⟩ rfl rfl
  · rw [if_neg fun h => hany ((rowAny_iff M r k).1 h)]
    exact if_congr ⟨fun h => .inr ⟨h, fun k' e => hany ⟨k', e⟩⟩, fun h => (h.resolve_left fun e => hany ⟨k, e⟩).1⟩ rfl rfl

/-- The reference ends with its arguments unchanged and every counter at zero: it declares no semaphore. -/
theorem frame_reference : Cert.quiescent_ReferenceIdeal (hReferenceIdeal := Gen.facts) := fun m g _ =>
  (θ_run defs _ _).mono (fun r h => ⟨fun c => (h c).2, sem_eq_zero_of_no_sems (by decide) r.2⟩) (Value.run m g)

end Cert.ReferenceIdeal.Own

end
-- ==== Proof.Frame.lean ====
/-
  The frame of the ideal kernel, and the frame of the kernel from it.
-/
module

public import proofs.«01_k».proof.Proof.Run
public import proofs.«01_k».proof.Proof.Gen.Kernel
public import proofs.«01_k».proof.Defs

@[expose] public section

set_option maxRecDepth 16384

noncomputable section

namespace Cert.KernelIdeal.Own

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- Where the pipeline's post holds, the three arguments hold what they held at launch. -/
theorem args_of_post {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c)⟩

/-- Every run of the program ends with the arguments unchanged and every counter at zero, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨args_of_post m h.1, h.2⟩) (run_main m ρ)

/-- The ideal kernel ends with its arguments unchanged and every counter at zero. -/
theorem frame_ideal : Cert.quiescent_KernelIdeal (hKernelIdeal := Gen.facts) := fun m g _ => frame m g

/-- The kernel as read and the kernel as idealized run the same body at every grid point: no operation of this kernel is
    rewritten. -/
theorem defs₀_eq : Cert.KernelIdeal.defs₀ (F := F) = Cert.Kernel.defs₀ (F := F) := by
  refine congrArg Defs.onTc (funext fun l => ?_)
  match l with
  | 0 => exact funext fun ⟨_, _⟩ => rfl

/-- So the two programs have the same table of bodies, the pipeline's included. -/
theorem defs_eq : Cert.KernelIdeal.defs (F := F) = Cert.Kernel.defs (F := F) :=
  congrArg (Pipeline.defs Cert.Kernel.pcfgs) defs₀_eq

/-- The kernel ends with its arguments unchanged and every counter at zero: the ideal kernel's frame, at the words. -/
theorem frame_kernel : Cert.quiescent_Kernel (hKernel := Cert.Kernel.Gen.facts) := fun m g _ => by
  rw [← defs_eq]
  exact frame m g

end Cert.KernelIdeal.Own

end
-- ==== Proof.Equation.lean ====
/-
  The ideal kernel and the reference end with equal results.
-/
module

public import proofs.«01_k».proof.Proof.Value
public import proofs.«01_k».proof.Proof.Reference
public import proofs.«01_k».proof.Proof.Frame

@[expose] public section

set_option maxRecDepth 16384

noncomputable section

namespace Cert.Equation

open Idealize.ShloMosaic Idealize.ShloMosaic.TcCoe Idealize.ShloMosaic.ValueIdx
open Idealize.SL.Sem

variable {F : FTy → Type} [FloatOps F]

/-- The reference's composed operations are the masked scores, entry by entry, at any float values. -/
theorem out_eq_masked (S : FVec F Cert.ReferenceIdeal.S64x100000 .f32) (M : IVec Cert.ReferenceIdeal.S64x100000 1) :
    Cert.ReferenceIdeal.Own.out S M = Cert.KernelIdeal.Own.masked S M := by
  classical
  funext j
  obtain ⟨r, k, rfl⟩ : ∃ (r : Fin 64) (k : Fin 100000), j = ix2 r k := ⟨j 0, j 1, eq_ix2 j⟩
  refine (Cert.ReferenceIdeal.Own.out_apply S M r k).trans ?_
  unfold Cert.KernelIdeal.Own.masked
  exact if_congr Iff.rfl rfl rfl

/-- Both programs, run on equal arguments, end with the masked scores as their result and with their arguments unchanged. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Own.masked (Cert.KernelIdeal.Own.scoresOf m c) (Cert.KernelIdeal.Own.maskOf m c),
    (θ_run _ _ _).mono (fun _ h c => ⟨((h.1 c).1 2).trans (Cert.KernelIdeal.Own.final m c), Cert.KernelIdeal.Own.args_of_post m h.1 c⟩)
      (Cert.KernelIdeal.Own.run_main m g),
    (θ_run _ _ _).mono (fun _ h c => ⟨(h c).1.trans <| by
      rw [(hargs c).2.1, (hargs c).2.2]
      exact out_eq_masked _ _, (h c).2⟩) (Cert.ReferenceIdeal.Value.run m' g')⟩

end Cert.Equation

end
-- ==== Proof.lean ====
module

public import proofs.«01_k».proof.Proof.Equation

@[expose] public section

noncomputable section

namespace Cert.Proof

/-- Every claim of the certificate, at the programs' side conditions as proved. -/
theorem claim : Cert.Claim :=
  ⟨Cert.Kernel.Gen.facts, Cert.KernelIdeal.Gen.facts, Cert.ReferenceIdeal.Gen.facts,
    Cert.KernelIdeal.Own.frame_kernel, Cert.KernelIdeal.Own.frame_ideal, Cert.ReferenceIdeal.Own.frame_reference,
    trivial, Cert.Equation.algebraic⟩

end Cert.Proof

end
